-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "never_pos" .f32 0x7F61B1E6#32 ⊤
  ∧ IdealRules.named_const.Statement Cert.KernelIdeal.κ "never_neg" .f32 0xFF61B1E6#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4096 : Shape := ⟨1, ![4096]⟩
abbrev S4 : Shape := ⟨1, ![4]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4096 .f32) (main_arg1 : IVec S4096 32) (main_arg2 : IVec S4 32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_c_0 : IVec S_ 32 := constantI S_ 32 1024#32
  let main_v4 : IVec S4 32 := broadcastInDim S4 ![] bcast_S_S4 main_c_0
  let main_v5 : IVec S4 1 := cmpi .eq main_arg2 main_v4
  let main_c_1 : IVec S_ 1 := constantI S_ 1 1#1
  let main_v6 : IVec S_ 1 := (fun x v => Host.reduce IntOp.andi x v reducesTo_S4_S_d0 h_S_) main_v5 main_c_1
  let main_v7 : IVec S_ 1 := andi main_v3 main_v6
  main_v7
-- ==== Kernel.lean ====
abbrev S4096 : Shape := ⟨1, ![4096]⟩
abbrev S4 : Shape := ⟨1, ![4]⟩
abbrev S4x1024x1 : Shape := ⟨3, ![4, 1024, 1]⟩
abbrev S4x1x1024 : Shape := ⟨3, ![4, 1, 1024]⟩
abbrev S1x1024x1 : Shape := ⟨3, ![1, 1024, 1]⟩
abbrev S1x1x1024 : Shape := ⟨3, ![1, 1, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S1x1x1 : Shape := ⟨3, ![1, 1, 1]⟩
abbrev S_ : Shape := ⟨0, ![]⟩
abbrev S4x1x1 : Shape := ⟨3, ![4, 1, 1]⟩

abbrev nBuf : Space → Nat
  | .hbm => 24
  | .vmem => 12
  | .smem => 0
  | _ => 0

abbrev bufTy : (tb : Table) → Fin (tcTables nBuf tb) → BufTy
  | .hbm, ⟨0, _⟩ => ⟨S4096, .f32⟩
  | .hbm, ⟨1, _⟩ => ⟨S4096, .i32⟩
  | .hbm, ⟨2, _⟩ => ⟨S4, .i32⟩
  | .hbm, ⟨3, _⟩ => ⟨S4x1024x1, .f32⟩
  | .hbm, ⟨4, _⟩ => ⟨S4x1024x1, .i32⟩
  | .hbm, ⟨5, _⟩ => ⟨S4x1x1024, .f32⟩
  | .hbm, ⟨6, _⟩ => ⟨S4x1x1024, .i32⟩
  | .hbm, ⟨7, _⟩ => ⟨S4x1x1024, .f32⟩
  | .hbm, ⟨8, _⟩ => ⟨S4x1x1024, .f32⟩
  | .hbm, ⟨9, _⟩ => ⟨S_, .f32⟩
  | .hbm, ⟨10, _⟩ => ⟨S_, .f32⟩
  | .hbm, ⟨11, _⟩ => ⟨S4x1x1, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1, .i32⟩
  | .local _ .vmem, ⟨3, _⟩ => ⟨S1x1024x1, .i32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .i32⟩
  | .local _ .vmem, ⟨7, _⟩ => ⟨S1x1x1024, .i32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "never_neg" => some ⊥
  | "never_pos" => some ⊤
  | _ => none
-- ==== ReferenceIdeal.lean ====
abbrev S4096 : Shape := ⟨1, ![4096]⟩
abbrev S4 : Shape := ⟨1, ![4]⟩
abbrev S1 : Shape := ⟨1, ![1]⟩
abbrev S3 : Shape := ⟨1, ![3]⟩
abbrev S_ : Shape := ⟨0, ![]⟩
abbrev S4x1 : Shape := ⟨2, ![4, 1]⟩
abbrev S4096x1 : Shape := ⟨2, ![4096, 1]⟩
abbrev S1x1 : Shape := ⟨2, ![1, 1]⟩
abbrev S1x4096 : Shape := ⟨2, ![1, 4096]⟩
abbrev S4096x4096 : Shape := ⟨2, ![4096, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .i32⟩
  | .hbm, ⟨2, _⟩ => ⟨S4, .i32⟩
  | .hbm, ⟨3, _⟩ => ⟨S4, .i32⟩
  | .hbm, ⟨4, _⟩ => ⟨S1, .i32⟩
  | .hbm, ⟨5, _⟩ => ⟨S3, .i32⟩
  | .hbm, ⟨6, _⟩ => ⟨S4, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S4, .i32⟩
  | .hbm, ⟨11, _⟩ => ⟨S_, .i32⟩
  | .hbm, ⟨12, _⟩ => ⟨S_, .i32⟩
  | .hbm, ⟨13, _⟩ => ⟨S4, .i32⟩
  | .hbm, ⟨14, _⟩ => ⟨S_, .i32⟩
  | .hbm, ⟨15, _⟩ => ⟨S4096, .i32⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S_, .i32⟩
  | .hbm, ⟨25, _⟩ => ⟨S4, .i32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S1x1, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i1⟩
  | .hbm, ⟨50, _⟩ => ⟨S4096, .i1⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S4096x1, .i32⟩
  | .hbm, ⟨62, _⟩ => ⟨S1x4096, .i32⟩
  | .hbm, ⟨63, _⟩ => ⟨S4096x4096, .i32⟩
  | .hbm, ⟨64, _⟩ => ⟨S4096x4096, .i32⟩
  | .hbm, ⟨65, _⟩ => ⟨S4096x4096, .i1⟩
  | .hbm, ⟨66, _⟩ => ⟨S4096x1, .i1⟩
  | .hbm, ⟨67, _⟩ => ⟨S4096x4096, .i1⟩
  | .hbm, ⟨68, _⟩ => ⟨S4096x4096, .i1⟩
  | .hbm, ⟨69, _⟩ => ⟨S1x4096, .i1⟩
  | .hbm, ⟨70, _⟩ => ⟨S4096x4096, .i1⟩
  | .hbm, ⟨71, _⟩ => ⟨S4096x4096, .i1⟩
  | .hbm, ⟨72, _⟩ => ⟨S4096x1, .f32⟩
  | .hbm, ⟨73, _⟩ => ⟨S1x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S4096x4096, .i32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S_, .f32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .i32⟩
  | .hbm, ⟨104, _⟩ => ⟨S_, .i1⟩
  | .hbm, ⟨105, _⟩ => ⟨S_, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v17 : Ref sig .tc := ⟨.hbm, 54, rfl⟩
abbrev main_c_6 : Ref sig .tc := ⟨.hbm, 55, rfl⟩
abbrev main_v18 : Ref sig .tc := ⟨.hbm, 56, rfl⟩
abbrev main_v19 : Ref sig .tc := ⟨.hbm, 57, rfl⟩
abbrev main_c_7 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst : Ref sig .tc := ⟨.hbm, 77, rfl⟩
abbrev main_v38 : Ref sig .tc := ⟨.hbm, 78, rfl⟩
abbrev main_v39 : Ref sig .tc := ⟨.hbm, 79, rfl⟩
abbrev main_cst_8 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_9 : Ref sig .tc := ⟨.hbm, 84, rfl⟩
abbrev main_v43 : Ref sig .tc := ⟨.hbm, 85, rfl⟩
abbrev main_cst_10 : Ref sig .tc := ⟨.hbm, 86, rfl⟩
abbrev main_call4_v0 : Ref sig .tc := ⟨.hbm, 87, rfl⟩
abbrev main_call4_v1 : Ref sig .tc := ⟨.hbm, 88, rfl⟩
abbrev main_v44 : Ref sig .tc := ⟨.hbm, 89, rfl⟩
abbrev main_cst_11 : Ref sig .tc := ⟨.hbm, 90, rfl⟩
abbrev main_v45 : Ref sig .tc := ⟨.hbm, 91, rfl⟩
abbrev main_c_12 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_13 : Ref sig .tc := ⟨.hbm, 96, rfl⟩
abbrev main_v49 : Ref sig .tc := ⟨.hbm, 97, rfl⟩
abbrev main_v50 : Ref sig .tc := ⟨.hbm, 98, rfl⟩
abbrev main_cst_14 : Ref sig .tc := ⟨.hbm, 99, rfl⟩
abbrev main_v51 : Ref sig .tc := ⟨.hbm, 100, rfl⟩
abbrev main_cst_15 : Ref sig .tc := ⟨.hbm, 101, rfl⟩
abbrev main_v52 : Ref sig .tc := ⟨.hbm, 102, rfl⟩
abbrev main_c_16 : Ref sig .tc := ⟨.hbm, 103, rfl⟩
abbrev main_v53 : Ref sig .tc := ⟨.hbm, 104, rfl⟩
abbrev main_v54 : Ref sig .tc := ⟨.hbm, 105, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.WholeRead
public import Idealize.ShloMosaic.Lib.Pipeline.ValueKit

@[expose] public section

/-! The body of the region, run once at a symbolic grid point: from input blocks `x0 … x3` it leaves `lossBlock` and
`posBlock` of them in the two output buffers, whatever these held before. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row of column sums of the hinge that one grid point writes, a function of its four input blocks. -/
def lossBlock (x0 : Vec F S1x1024x1 .f32) (x1 : Vec F S1x1024x1 .i32) (x2 : Vec F S1x1x1024 .f32) (x3 : Vec F S1x1x1024 .i32) : Vec F S1x1x1024 .f32 :=
  k0_pay1 0#32 (k0_pay4 x0 x1 x2 x3) (Scalar.ofBits .f32 0x00000000#32) (fun _ => Scalar.ofBits .f32 0x00000000#32)

/-- The row that one grid point writes with the number of its labels that are not zero, a function of the label block. -/
def posBlock (x1 : Vec F S1x1024x1 .i32) : Vec F S1x1x1024 .f32 :=
  k0_pay2 0#32 (k0_pay3 x1) (fun _ => Scalar.ofBits .f32 0x00000000#32)

/-- The grid coordinate modulo one, as the body computes it, is zero at each of the four points. -/
theorem tile_zero (n : ℕ) (h : n < 4) :
    (Scalar.select (Scalar.andi (Scalar.xori (Scalar.cmpi .slt (Scalar.remsi (BitVec.ofNat 32 n) (Scalar.select (Scalar.cmpi .eq 1#32 0#32) 1#32 1#32)) 0#32)
        (Scalar.cmpi .slt (Scalar.select (Scalar.cmpi .eq 1#32 0#32) 1#32 1#32) 0#32))
        (Scalar.cmpi .ne (Scalar.remsi (BitVec.ofNat 32 n) (Scalar.select (Scalar.cmpi .eq 1#32 0#32) 1#32 1#32)) 0#32))
        (Scalar.addi (Scalar.remsi (BitVec.ofNat 32 n) (Scalar.select (Scalar.cmpi .eq 1#32 0#32) 1#32 1#32)) (Scalar.select (Scalar.cmpi .eq 1#32 0#32) 1#32 1#32))
        (Scalar.remsi (BitVec.ofNat 32 n) (Scalar.select (Scalar.cmpi .eq 1#32 0#32) 1#32 1#32)) : BitVec 32) = 0#32 := by
  interval_cases n <;> decide

/-- At tile zero the row stored is `lossBlock`: what was in the loss buffer does not reach it. -/
theorem pay1_eq {x0 : Vec F S1x1024x1 .f32} {x1 : Vec F S1x1024x1 .i32} {x2 : Vec F S1x1x1024 .f32} {x3 : Vec F S1x1x1024 .i32}
    {v9 : BitVec 32} {v34 : FVec F S1024x1024 .f32} {z : F .f32} {v49 : Vec F S1x1x1024 .f32} (h9 : v9 = 0#32)
    (h34 : v34 = k0_pay4 x0 x1 x2 x3) (hz : z = Scalar.ofBits .f32 0x00000000#32) : k0_pay1 v9 v34 z v49 = lossBlock x0 x1 x2 x3 := by
  subst h9 h34 hz
  rfl

/-- At tile zero the row stored is `posBlock`: what was in the count buffer does not reach it. -/
theorem pay2_eq {x1 : Vec F S1x1024x1 .i32} {v9 : BitVec 32} {v15 : IVec S1024x1 32} {v55 : Vec F S1x1x1024 .f32} (h9 : v9 = 0#32)
    (h15 : v15 = k0_pay3 x1) : k0_pay2 v9 v15 v55 = posBlock x1 := by
  subst h9 h15
  rfl

/-- A load of all of a whole buffer held at `X` is `X`. -/
theorem load_all {s : Shape} {e : EltTy} {M : Memref sig .tc .vmem s e} (hM : M.IsWhole) (X : s.Idx → Elt F e)
    {off : Fin s.rank → ℕ} (h : ∀ a, off a = 0) (inb : ∀ a, off a + s.size a ≤ s.size a) :
    View.readAt (Elt F) M.view (Rect.unit (s := s) off s.size inb).toLoadRect (hM.unread X) = X := by
  funext x
  rw [Memref.IsWhole.readAt_unread]
  congr 1
  funext a
  refine Fin.ext ?_
  have e : ((Rect.unit off s.size inb).toLoadRect.idx x a).val = off a + (x a).val := by
    simp [Rect.unit, Rect.toLoadRect, LoadRect.idx]
  rw [e, h a, Nat.zero_add]

/-- One store of a whole buffer, read back, is what was stored. -/
theorem store_all {s : Shape} {e : EltTy} (v : View sig .tc .vmem s e) (f : v.ty.Contents (Elt F)) {off : Fin s.rank → ℕ} (h : ∀ a, off a = 0)
    (inb : ∀ a, off a + s.size a ≤ s.size a) (w : s.Idx → Elt F e) :
    v.read (Elt F) (v.writes (Elt F) f [⟨Rect.unit off s.size inb, w⟩]) = w := by
  funext y
  have hy : (Rect.unit off s.size inb).emb y = y := by
    funext a
    refine Fin.ext ?_
    rw [ValueKit.rect_emb_unit_val, h a, Nat.zero_add]
  have hr := View.read_writes_cons_emb (v := v) (f := f) (Rect.unit off s.size inb) w [] y
  rwa [hy] at hr

set_option maxHeartbeats 1000000 in
/-- The body at a symbolic point. -/
theorem body_run (c : Dev nD) (i : grid0.Coords) (arg1 : Memref sig .tc .vmem S1x1024x1 .f32) (harg1 : arg1.IsWhole) (arg2 : Memref sig .tc .vmem S1x1024x1 .i32) (harg2 : arg2.IsWhole) (arg3 : Memref sig .tc .vmem S1x1x1024 .f32) (harg3 : arg3.IsWhole) (arg4 : Memref sig .tc .vmem S1x1x1024 .i32) (harg4 : arg4.IsWhole) (arg5 : Memref sig .tc .vmem S1x1x1024 .f32) (harg5 : arg5.IsWhole) (arg6 : Memref sig .tc .vmem S1x1x1024 .f32) (harg6 : arg6.IsWhole)
    (x0 : Vec F S1x1024x1 .f32) (x1 : Vec F S1x1024x1 .i32) (x2 : Vec F S1x1x1024 .f32) (x3 : Vec F S1x1x1024 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lossBlock x0 x1 x2 x3) ∗ owns (c : Thread nD τ) arg6 fullShare (posBlock x1)) -∗ K ⟨⟩))
          ⊢ wp frame (wpE (defs₀ (F := F)) Variants.none c none) E (cc0__tc_body i arg1 harg1 arg2 harg2 arg3 harg3 arg4 harg4 arg5 harg5 arg6 harg6) K := by
    intro E K
    simp only [cc0__tc_body_eq_skeleton]; unfold cc0__tc_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    have z3 : ∀ a : Fin 3, (![0, 0, 0] : Fin 3 → ℕ) a = 0 := by decide
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      have h9 : body_run.sl.v9 i = 0#32 := tile_zero (i 0).val (i 0).isLt
      have hr : body_run.sl.r_1 c arg1 harg1 arg2 harg2 arg3 harg3 arg4 harg4 x0 x1 x2 x3 = k0_pay4 x0 x1 x2 x3 := by
        unfold body_run.sl.r_1
        exact congr (congr (congr (congrArg k0_pay4 (load_all (s := S1x1024x1) harg1 x0 (off := ![0, 0, 0]) z3 _)) (load_all (s := S1x1024x1) harg2 x1 (off := ![0, 0, 0]) z3 _)) (load_all (s := S1x1x1024) harg3 x2 (off := ![0, 0, 0]) z3 _)) (load_all (s := S1x1x1024) harg4 x3 (off := ![0, 0, 0]) z3 _)
      exact (store_all (s := S1x1x1024) _ _ (off := ![0, 0, 0]) z3 _ _).trans (pay1_eq h9 hr rfl)
    iexists _; isplitr; swap; · iexact H5
    ipureintro
    have h9 : body_run.sl.v9 i = 0#32 := tile_zero (i 0).val (i 0).isLt
    have hr : body_run.sl.r c arg2 harg2 x1 = k0_pay3 x1 := by
      unfold body_run.sl.r
      exact congrArg k0_pay3 (load_all (s := S1x1024x1) harg2 x1 (off := ![0, 0, 0]) z3 _)
    exact (store_all (s := S1x1x1024) _ _ (off := ![0, 0, 0]) z3 _ _).trans (pay2_eq h9 hr)

end Cert.KernelIdeal.Body
-- ==== Proof.KernelRun.lean ====
module

public import proofs.«01_k».proof.Proof.Body
public import Idealize.ShloMosaic.Lib.Claim

@[expose] public section

/-! The run of the idealized kernel: the region's proof data, whose two output windows hold at each point the blocks that
the body computes from that point's input blocks, and the launch. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region does, window by window: an input keeps its block, an output holds the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossBlock (iblk m c 0 t) (iblk m c 1 t) (iblk m c 2 t) (iblk m c 3 t)
    | ⟨5, _⟩ => posBlock (iblk m c 1 t)
  Φ _ := Pipeline.ΦA spec0 c
  q _ := fullShare
  owed _ := 0

/-- The arrays that the region starts from are those the host operations before it leave. -/
theorem A_eq (c : Dev nD) (w : Fin cfg0.W) : (dats m 0 c).A w = V m c (Pipeline.arrRef spec0 w) := by
  dsimp only [dats]

/-- A point leaves the block of the positives' scores (window 0) as it is. -/
theorem after_0 (c : Dev nD) (t : Fin cfg0.N) : (dats m 0 c).after 0 t = iblk m c 0 t := by dsimp only [dats]
/-- A point leaves the block of the positives' labels (window 1) as it is. -/
theorem after_1 (c : Dev nD) (t : Fin cfg0.N) : (dats m 0 c).after 1 t = iblk m c 1 t := by dsimp only [dats]
/-- A point leaves the block of the negatives' scores (window 2) as it is. -/
theorem after_2 (c : Dev nD) (t : Fin cfg0.N) : (dats m 0 c).after 2 t = iblk m c 2 t := by dsimp only [dats]
/-- A point leaves the block of the negatives' labels (window 3) as it is. -/
theorem after_3 (c : Dev nD) (t : Fin cfg0.N) : (dats m 0 c).after 3 t = iblk m c 3 t := by dsimp only [dats]
/-- The loss window after a point: the hinge's column sums of that point's blocks. -/
theorem after_4 (c : Dev nD) (t : Fin cfg0.N) :
    (dats m 0 c).after 4 t = lossBlock (iblk m c 0 t) (iblk m c 1 t) (iblk m c 2 t) (iblk m c 3 t) := by dsimp only [dats]
/-- The count window after a point: the count of that point's label block. -/
theorem after_5 (c : Dev nD) (t : Fin cfg0.N) : (dats m 0 c).after 5 t = posBlock (iblk m c 1 t) := by dsimp only [dats]

/-- At a point, window 0's buffer holds that point's block of its array. -/
theorem before_0 (c : Dev nD) (t : Fin cfg0.N) (d) : (dats m 0 c).before 0 t d = iblk m c 0 t :=
  before0_0_of m (dats m 0 c) (A_eq m c 0) (after_0 m c) t d
/-- At a point, window 1's buffer holds that point's block of its array. -/
theorem before_1 (c : Dev nD) (t : Fin cfg0.N) (d) : (dats m 0 c).before 1 t d = iblk m c 1 t :=
  before0_1_of m (dats m 0 c) (A_eq m c 1) (after_1 m c) t d
/-- At a point, window 2's buffer holds that point's block of its array. -/
theorem before_2 (c : Dev nD) (t : Fin cfg0.N) (d) : (dats m 0 c).before 2 t d = iblk m c 2 t :=
  before0_2_of m (dats m 0 c) (A_eq m c 2) (after_2 m c) t d
/-- At a point, window 3's buffer holds that point's block of its array. -/
theorem before_3 (c : Dev nD) (t : Fin cfg0.N) (d) : (dats m 0 c).before 3 t d = iblk m c 3 t :=
  before0_3_of m (dats m 0 c) (A_eq m c 3) (after_3 m c) t d

/-- Window 0's buffer at point `t`. -/
abbrev ms0_0 (t : Fin cfg0.N) : Memref sig .tc .vmem S1x1024x1 .f32 := win0_0.stage (cfg0.slots t 0)
/-- Window 1's buffer at point `t`. -/
abbrev ms0_1 (t : Fin cfg0.N) : Memref sig .tc .vmem S1x1024x1 .i32 := win0_1.stage (cfg0.slots t 1)
/-- Window 2's buffer at point `t`. -/
abbrev ms0_2 (t : Fin cfg0.N) : Memref sig .tc .vmem S1x1x1024 .f32 := win0_2.stage (cfg0.slots t 2)
/-- Window 3's buffer at point `t`. -/
abbrev ms0_3 (t : Fin cfg0.N) : Memref sig .tc .vmem S1x1x1024 .i32 := win0_3.stage (cfg0.slots t 3)
/-- Window 4's buffer at point `t`. -/
abbrev ms0_4 (t : Fin cfg0.N) : Memref sig .tc .vmem S1x1x1024 .f32 := win0_4.stage (cfg0.slots t 4)
/-- Window 5's buffer at point `t`. -/
abbrev ms0_5 (t : Fin cfg0.N) : Memref sig .tc .vmem S1x1x1024 .f32 := win0_5.stage (cfg0.slots t 5)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body hands back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body keeps its contract at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The function that the region calls at point `t` is the body there. -/
theorem defs₀_row (t : Fin cfg0.N) :
    defs₀ (F := F) .tc cfg0.body (cfg0.bodyArgs t (cfg0.slots t)) = bodyAt0 t := by
  unfold defs₀; rw [Defs.onTc_tc]

/-- The library's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: @main terminates, each buffer ends as the host operations after the region leave it from the region's
    final arrays, and every semaphore counter is back at zero. -/
theorem run_main_quiescent : θ_run defs (onTc (τ := τ) (main (F := F))) (s₀ m ρ)
    (fun r => Pipeline.FramePost cfgs (dats m) 0 (Pipeline.afterTail₀ cfgs (dats m) 0 (V0 m) [hostOps1, hostOps1_1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ)
    (Pipeline.FramePost cfgs (dats m) 0 (Pipeline.afterTail₀ cfgs (dats m) 0 (V0 m) [hostOps1, hostOps1_1])) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.Printed.lean ====
module

public import proofs.«01_k».proof.Defs
public import proofs.«01_k».proof.Proof.Gen.Kernel
public import proofs.«01_k».proof.Proof.KernelRun

@[expose] public section

/-! The kernel as printed is the idealized kernel's program with each named constant read as its word. The run of that
program is proved for every reading of its floats, so it is the kernel's run too. -/

set_option maxRecDepth 16384

noncomputable section

namespace Cert.Printed

open Idealize.ShloMosaic Idealize.ShloMosaic.TcCoe Idealize.SL.Sem

/-- Names read as words: a named constant is the float that its word spells. -/
abbrev words : Named Bits := ⟨fun _ _ φ b => Scalar.ofBits φ b⟩

attribute [local instance] Cert.Kernel.Gen.facts Cert.KernelIdeal.Gen.facts words

/-- The first part of the body, with its two large literals, is the same in both programs. -/
theorem part_eq : Cert.Kernel.k0_part1 (F := Bits) = Cert.KernelIdeal.k0_part1 (F := Bits) := by
  funext i a1 h1 a2 h2 a3 h3 a4 h4 a5 h5 a6 h6
  unfold Cert.Kernel.k0_part1 Cert.KernelIdeal.k0_part1
  rfl

/-- The whole body is the same in both programs. -/
theorem body_eq : Cert.Kernel.cc0__tc_body (F := Bits) = Cert.KernelIdeal.cc0__tc_body (F := Bits) := by
  funext i a1 h1 a2 h2 a3 h3 a4 h4 a5 h5 a6 h6
  unfold Cert.Kernel.cc0__tc_body Cert.KernelIdeal.cc0__tc_body
  rw [part_eq]
  rfl

/-- The kernels' functions are the same in both programs. -/
theorem kernels_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => simp only [body_eq]; rfl
  | ⟨_ + 1, h⟩, _ => exact absurd h (by omega)

/-- All functions, with the pipeline's, are the same in both programs. -/
theorem defs_eq : Cert.Kernel.defs (F := Bits) = Cert.KernelIdeal.defs (F := Bits) := by
  unfold Cert.Kernel.defs Cert.KernelIdeal.defs
  exact congrArg (Pipeline.defs Cert.KernelIdeal.pcfgs) kernels_eq

/-- The host code is the same in both programs. -/
theorem main_eq : Cert.Kernel.main (F := Bits) = Cert.KernelIdeal.main (F := Bits) := rfl

/-- The kernel as printed runs to its end, faults nowhere, leaves its arguments unchanged and every semaphore at zero. -/
theorem frame : Cert.quiescent_Kernel (hKernel := Cert.Kernel.Gen.facts) := by
  intro m ρ _
  rw [defs_eq, main_eq]
  exact Cert.KernelIdeal.Body.frame (F := Bits) m ρ

end Cert.Printed
-- ==== Proof.Tail.lean ====
module

public import proofs.«01_k».proof.Proof.KernelRun
public import Idealize.ShloMosaic.Lib.Claim

@[expose] public section

/-! The host operations after the region, as one function of the region's two arrays. -/

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The host's last operations on the two arrays of the region: the sum of all losses over the number of pairs, zero when there is no pair. -/
def tailOf (L P : Vec F S4x1x1024 .f32) : Vec F S_ .f32 :=
  let p : Vec F S4 .f32 := shapeCast S4 (extractStridedSlice S4x1x1 ![0, 0, 0] P slices_S4x1x1024_S4x1x1_0_0_0) shapeCasts_S4x1x1_S4
  let np : Vec F S_ .f32 := Host.reduceAdd (mulf p (subf (broadcastInDim S4 ![] bcast_S_S4 (constant S_ .f32 0x44800000#32)) p)) (constant S_ .f32 0x00000000#32) reducesTo_S4_S_d0 h_S_
  let total : Vec F S_ .f32 := Host.reduceAdd L (constant S_ .f32 0x00000000#32) reducesTo_S4x1x1024_S_d0_1_2 h_S_
  select (cmpf .ogt np (constant S_ .f32 0x00000000#32)) (Host.divf total np) (constant S_ .f32 0x00000000#32)

set_option maxHeartbeats 1600000 in
/-- The host operations after the region compute that function of the region's arrays. -/
theorem tail_eq (c : Dev nD) : Pipeline.afterTail₀ cfgs (dats m) 0 (V0 m) [hostOps1, hostOps1_1] c main_v14
    = tailOf ((dats m 0 c).arrAt 4 (cfgs 0).N) ((dats m 0 c).arrAt 5 (cfgs 0).N) := by
  have h4 := Pipeline.withArrays_arr (cfgs 0).spec launch0.win.arr_inj c (V0 m c) (fun w => (dats m 0 c).arrAt w (cfgs 0).N) 4
  have h5 := Pipeline.withArrays_arr (cfgs 0).spec launch0.win.arr_inj c (V0 m c) (fun w => (dats m 0 c).arrAt w (cfgs 0).N) 5
  unfold Pipeline.afterTail₀
  generalize Pipeline.withArrays (cfgs 0).spec c (V0 m c) (fun w => (dats m 0 c).arrAt w (cfgs 0).N) = W at h4 h5 ⊢
  unfold tailOf
  rw [← h4, ← h5]
  simp only [hostOps1, hostOps1_1, List.flatten_cons, List.flatten_nil, List.append_nil, List.cons_append, List.nil_append]
  after_results
  try rfl

/-- @main's run with its result read. -/
theorem result_run : θ_run defs (onTc (τ := τ) (main (F := F))) ⟨m, fun _ => 0, ρ⟩ (fun r => ∀ c : Dev nD,
      r.2.mem ((c.tc : Thread nD τ).loc main_v14) = tailOf ((dats m 0 c).arrAt 4 (cfgs 0).N) ((dats m 0 c).arrAt 5 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v14 (Pipeline.mem_restRefs_of main_v14 (by decide) (by decide))).trans (tail_eq m c), h.2 c⟩)
    (θ_run_and (run_main m ρ) (frame_of m ρ (dats m) (A_eq m) (run_main m ρ)))

end Cert.KernelIdeal.Body
-- ==== Proof.KBlocks.lean ====
module

public import proofs.«01_k».proof.Proof.KernelRun
public import Idealize.ShloMosaic.Lib.Pointwise
public import Idealize.ShloMosaic.Lib.Pipeline.ValueKit
public import Idealize.ShloMosaic.Lib.Claim
public import Idealize.ShloMosaic.Lib.Routing.Ops
public import Idealize.ShloMosaic.PureOps.Ideal

@[expose] public section

/-! The two arrays that the region leaves, element by element, in terms of the arguments. -/

set_option maxRecDepth 16384

noncomputable section

namespace Cert.KernelIdeal.Body

open Cert.KernelIdeal Cert.KernelIdeal.Gen
open Idealize.ShloMosaic Idealize.ShloMosaic.TcCoe

variable (m : (ℓ : Loc nD τ sig) → Buf (Elt Ideal) ℓ)

/-- Element `i` of segment `g`, of four segments of 1024 elements each. -/
def at' (g : Fin 4) (i : Fin 1024) : S4096.Idx := ix1 (⟨g.val * 1024 + i.val, by omega⟩ : Fin 4096)

/-- The constant named for what is no negative is minus infinity. -/
theorem named_neg : (Named.named κ "never_neg" 0xFF61B1E6#32 : Ideal .f32) = (⊥ : EReal) := by
  rfl

/-- The constant named for what is no positive is plus infinity. -/
theorem named_pos : (Named.named κ "never_pos" 0x7F61B1E6#32 : Ideal .f32) = (⊤ : EReal) := by
  rfl

/-- The array of losses: at segment `g` and element `j`, the hinge summed over the elements of the segment. -/
def lossArr (s : FVec Ideal S4096 .f32) (l : IVec S4096 32) : FVec Ideal S4x1x1024 .f32 := fun x =>
  ∑ i : Fin 1024, max (Scalar.select (IntOp.cmpi CmpIPredicate.eq (l (at' (x 0) (x 2))) 0#32) (s (at' (x 0) (x 2)) + 1) ⊥
    - Scalar.select (IntOp.cmpi CmpIPredicate.ne (l (at' (x 0) i)) 0#32) (s (at' (x 0) i)) ⊤) 0

/-- The array of counts: at segment `g`, at every element, the number of labels of the segment that are not zero. -/
def posArr (l : IVec S4096 32) : FVec Ideal S4x1x1024 .f32 := fun x =>
  ∑ i : Fin 1024, ∑ _k : Fin 1, FloatOps.sitofp (F := Ideal) FTy.f32 (BitVec.setWidth 32 (IntOp.cmpi CmpIPredicate.ne (l (at' (x 0) i)) 0#32))

/-- At point `t` every window shows block `t` of its array. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- The scores, as @main is given them. -/
def scoresOf (c : Dev nD) : FVec Ideal S4096 .f32 := m ((c : Thread nD τ).loc main_arg0)

/-- The labels, as @main is given them. -/
def labelsOf (c : Dev nD) : IVec S4096 32 := m ((c : Thread nD τ).loc main_arg1)

/-- Input window 0's block at point `t`, at its literal type. -/
def blk0 (c : Dev nD) (t : Fin cfg0.N) : FVec Ideal S1x1024x1 .f32 := iblk m c 0 t

/-- Window 0's array is the scores as four columns. -/
theorem V_0 (c : Dev nD) : V m c main_v0 = (shapeCast S4x1024x1 (scoresOf m c) shapeCasts_S4096_S4x1024x1 : FVec Ideal S4x1024x1 .f32) := by
  unfold scoresOf
  entry_read
  try rfl

/-- That block reads the argument at segment `t`. -/
theorem blk0_at (c : Dev nD) (t : Fin cfg0.N) (x : Fin 1024) : blk0 m c t (ix3 0 x 0) = scoresOf m c (at' (t.cast N_0) x) := by
  have he : (((cfg0.win 0).blk t).view.emb (ix3 0 x 0) : S4x1024x1.Idx) = ix3 (t.cast N_0) x 0 := by
    blk_ext [idx t]
    exact Nat.add_zero _
  show V m c main_v0 (((cfg0.win 0).blk t).view.emb (ix3 0 x 0)) = _
  rw [V_0, he]
  exact Routing.cast13 _ _ _ _ _ _ (by simp [at'])

/-- Input window 1's block at point `t`, at its literal type. -/
def blk1 (c : Dev nD) (t : Fin cfg0.N) : IVec S1x1024x1 32 := iblk m c 1 t

/-- Window 1's array is the labels as four columns. -/
theorem V_1 (c : Dev nD) : V m c main_v1 = (shapeCast S4x1024x1 (labelsOf m c) shapeCasts_S4096_S4x1024x1 : IVec S4x1024x1 32) := by
  unfold labelsOf
  entry_read
  try rfl

/-- That block reads the argument at segment `t`. -/
theorem blk1_at (c : Dev nD) (t : Fin cfg0.N) (x : Fin 1024) : blk1 m c t (ix3 0 x 0) = labelsOf m c (at' (t.cast N_0) x) := by
  have he : (((cfg0.win 1).blk t).view.emb (ix3 0 x 0) : S4x1024x1.Idx) = ix3 (t.cast N_0) x 0 := by
    blk_ext [idx t]
    exact Nat.add_zero _
  show V m c main_v1 (((cfg0.win 1).blk t).view.emb (ix3 0 x 0)) = _
  rw [V_1, he]
  exact Routing.cast13 _ _ _ _ _ _ (by simp [at'])

/-- Input window 2's block at point `t`, at its literal type. -/
def blk2 (c : Dev nD) (t : Fin cfg0.N) : FVec Ideal S1x1x1024 .f32 := iblk m c 2 t

/-- Window 2's array is the scores as four rows. -/
theorem V_2 (c : Dev nD) : V m c main_v2 = (shapeCast S4x1x1024 (scoresOf m c) shapeCasts_S4096_S4x1x1024 : FVec Ideal S4x1x1024 .f32) := by
  unfold scoresOf
  entry_read
  try rfl

/-- That block reads the argument at segment `t`. -/
theorem blk2_at (c : Dev nD) (t : Fin cfg0.N) (x : Fin 1024) : blk2 m c t (ix3 0 0 x) = scoresOf m c (at' (t.cast N_0) x) := by
  have he : (((cfg0.win 2).blk t).view.emb (ix3 0 0 x) : S4x1x1024.Idx) = ix3 (t.cast N_0) 0 x := by
    blk_ext [idx t]
    exact Nat.add_zero _
  show V m c main_v2 (((cfg0.win 2).blk t).view.emb (ix3 0 0 x)) = _
  rw [V_2, he]
  exact Routing.cast13 _ _ _ _ _ _ (by simp [at'])

/-- Input window 3's block at point `t`, at its literal type. -/
def blk3 (c : Dev nD) (t : Fin cfg0.N) : IVec S1x1x1024 32 := iblk m c 3 t

/-- Window 3's array is the labels as four rows. -/
theorem V_3 (c : Dev nD) : V m c main_v3 = (shapeCast S4x1x1024 (labelsOf m c) shapeCasts_S4096_S4x1x1024 : IVec S4x1x1024 32) := by
  unfold labelsOf
  entry_read
  try rfl

/-- That block reads the argument at segment `t`. -/
theorem blk3_at (c : Dev nD) (t : Fin cfg0.N) (x : Fin 1024) : blk3 m c t (ix3 0 0 x) = labelsOf m c (at' (t.cast N_0) x) := by
  have he : (((cfg0.win 3).blk t).view.emb (ix3 0 0 x) : S4x1x1024.Idx) = ix3 (t.cast N_0) 0 x := by
    blk_ext [idx t]
    exact Nat.add_zero _
  show V m c main_v3 (((cfg0.win 3).blk t).view.emb (ix3 0 0 x)) = _
  rw [V_3, he]
  exact Routing.cast13 _ _ _ _ _ _ (by simp [at'])

/-- A loss block, entry by entry, from what its four input blocks read. -/
theorem lossBlock_at (s : FVec Ideal S4096 .f32) (l : IVec S4096 32) (g : Fin 4) (x0 : FVec Ideal S1x1024x1 .f32) (x1 : IVec S1x1024x1 32)
    (x2 : FVec Ideal S1x1x1024 .f32) (x3 : IVec S1x1x1024 32) (h0 : ∀ x, x0 (ix3 0 x 0) = s (at' g x)) (h1 : ∀ x, x1 (ix3 0 x 0) = l (at' g x))
    (h2 : ∀ x, x2 (ix3 0 0 x) = s (at' g x)) (h3 : ∀ x, x3 (ix3 0 0 x) = l (at' g x)) (a b : Fin 1) (j : Fin 1024) :
    lossBlock (F := Ideal) x0 x1 x2 x3 (ix3 a b j) = lossArr s l (ix3 g 0 j) := by
  pointwise [lossBlock, k0_pay1, k0_pay4, k0_pay3, lossArr]
  refine Finset.sum_congr rfl fun x _ => ?_
  rw [h0, h1, h2, h3, named_neg, named_pos]

/-- A count block, entry by entry, from what its input block reads. -/
theorem posBlock_at (l : IVec S4096 32) (g : Fin 4) (x1 : IVec S1x1024x1 32) (h1 : ∀ x, x1 (ix3 0 x 0) = l (at' g x)) (a b : Fin 1) (j : Fin 1024) :
    posBlock (F := Ideal) x1 (ix3 a b j) = posArr l (ix3 g 0 j) := by
  pointwise [posBlock, k0_pay2, k0_pay3, posArr]
  refine Finset.sum_congr rfl fun x _ => ?_
  rw [h1]

/-- The losses the call leaves. -/
theorem final_loss (c : Dev nD) : (dats m 0 c).arrAt 4 (cfgs 0).N = lossArr (scoresOf m c) (labelsOf m c) := by
  refine (dats m 0 c).arrAt_eq_of_covers 4 _ (by decide +kernel) fun t hf y => ?_
  have he : (((cfg0.win 4).blk t).view.emb y : S4x1x1024.Idx) = ix3 (t.cast N_0) 0 (y 2) := by
    idx_vars y
    blk_ext [idx t]
    exact Nat.add_zero _
  rw [after_4]
  show lossBlock (F := Ideal) (blk0 m c t) (blk1 m c t) (blk2 m c t) (blk3 m c t) y = lossArr (scoresOf m c) (labelsOf m c) (((cfg0.win 4).blk t).view.emb y)
  rw [he]
  idx_vars y
  exact lossBlock_at _ _ _ _ _ _ _ (blk0_at m c t) (blk1_at m c t) (blk2_at m c t) (blk3_at m c t) _ _ _

/-- The counts the call leaves. -/
theorem final_pos (c : Dev nD) : (dats m 0 c).arrAt 5 (cfgs 0).N = posArr (labelsOf m c) := by
  refine (dats m 0 c).arrAt_eq_of_covers 5 _ (by decide +kernel) fun t hf y => ?_
  have he : (((cfg0.win 5).blk t).view.emb y : S4x1x1024.Idx) = ix3 (t.cast N_0) 0 (y 2) := by
    idx_vars y
    blk_ext [idx t]
    exact Nat.add_zero _
  rw [after_5]
  show posBlock (F := Ideal) (blk1 m c t) y = posArr (labelsOf m c) (((cfg0.win 5).blk t).view.emb y)
  rw [he]
  idx_vars y
  exact posBlock_at _ _ _ (blk1_at m c t) _ _ _

end Cert.KernelIdeal.Body
-- ==== Proof.Spec.lean ====
module

public import Idealize.ShloMosaic.PureOps.Ideal
public import Idealize.ShloMosaic.Lib.Affine
public import Mathlib.Data.EReal.Operations
public import Mathlib.Algebra.BigOperators.Fin
public import Mathlib.Algebra.BigOperators.Ring.Finset
public import Mathlib.Algebra.Order.BigOperators.Group.Finset
public import Mathlib.Logic.Equiv.Fin.Basic
public import Mathlib.Tactic.Ring
public import Mathlib.Tactic.NormNum
public import Mathlib.Tactic.Lift

@[expose] public section

/-! The pairwise loss over four segments of 1024 places, as sums: over all pairs of places, and segment by segment. -/

noncomputable section

namespace Cert.Spec

/-- Place `i` of segment `g`. -/
def place (g : Fin 4) (i : Fin 1024) : Fin 4096 := ⟨g.val * 1024 + i.val, by omega⟩

/-- The segment of place `i` of segment `g` is `g`. -/
theorem place_seg (g : Fin 4) (i : Fin 1024) : (place g i).val / 1024 = g.val := by
  unfold place
  show (g.val * 1024 + i.val) / 1024 = g.val
  omega

/-- A sum over all places is the sum over the segments of the sums over their places. -/
theorem sum_split {M : Type} [AddCommMonoid M] (f : Fin 4096 → M) : ∑ p, f p = ∑ g, ∑ i, f (place g i) := by
  rw [← (finProdFinEquiv (m := 4) (n := 1024)).sum_comp f, Fintype.sum_prod_type]
  refine Finset.sum_congr rfl fun g _ => Finset.sum_congr rfl fun i _ => congrArg f (Fin.ext ?_)
  show i.val + 1024 * g.val = g.val * 1024 + i.val
  omega

/-- A sum over all pairs of places, zero off the segments, is the sum over the segments of the sums over their pairs. -/
theorem sum_pairs {M : Type} [AddCommMonoid M] (f : Fin 4096 → Fin 4096 → M) (hf : ∀ p q, p.val / 1024 ≠ q.val / 1024 → f p q = 0) :
    ∑ p, ∑ q, f p q = ∑ g, ∑ i, ∑ j, f (place g i) (place g j) := by
  rw [sum_split]
  refine Finset.sum_congr rfl fun g _ => Finset.sum_congr rfl fun i _ => ?_
  rw [sum_split, Finset.sum_eq_single g]
  · intro g' _ h
    refine Finset.sum_eq_zero fun j _ => hf _ _ ?_
    rw [place_seg, place_seg]
    exact fun e => h (Fin.ext e).symm
  · exact fun h => absurd (Finset.mem_univ _) h

variable (s : Fin 4096 → EReal) (l : Fin 4096 → BitVec 32)

/-- `p` and `q` are a pair: a positive and a negative of one segment. -/
def IsPair (p q : Fin 4096) : Prop := p.val / 1024 = q.val / 1024 ∧ l p ≠ 0#32 ∧ l q = 0#32

/-- Whether two places are a pair can be decided. -/
instance (p q : Fin 4096) : Decidable (IsPair l p q) := by unfold IsPair; infer_instance

/-- Within one segment, a pair is a positive and a negative. -/
theorem isPair_place (g : Fin 4) (i j : Fin 1024) : IsPair l (place g i) (place g j) ↔ l (place g i) ≠ 0#32 ∧ l (place g j) = 0#32 := by
  unfold IsPair
  rw [place_seg, place_seg]
  exact and_iff_right rfl

/-- The number of pairs. -/
def pairs : ℕ := (Finset.univ.filter fun k : Fin 4096 × Fin 4096 => IsPair l k.1 k.2).card

/-- The number of positives of segment `g`. -/
def positives (g : Fin 4) : ℕ := ∑ i : Fin 1024, if l (place g i) ≠ 0#32 then 1 else 0

/-- The sum of the losses of all pairs. -/
def losses : EReal := ∑ p, ∑ q, if IsPair l p q then max (1 - (s p - s q)) 0 else 0

/-- The mean loss of the pairs, zero when there is none. -/
def meanLoss : EReal := if 0 < pairs l then Idealize.ShloMosaic.Ideal.div (losses s l) ((pairs l : ℝ) : EReal) else 0

/-- A segment has at most 1024 positives. -/
theorem positives_le (g : Fin 4) : positives l g ≤ 1024 :=
  (Finset.sum_le_sum (g := fun _ => 1) fun i _ => by split_ifs <;> omega).trans (by simp)

/-- The negatives of a segment are its other places. -/
theorem negatives (g : Fin 4) : (∑ i : Fin 1024, if l (place g i) = 0#32 then 1 else 0) = 1024 - positives l g := by
  have h : (∑ i : Fin 1024, if l (place g i) = 0#32 then 1 else 0) + positives l g = 1024 := by
    unfold positives
    rw [← Finset.sum_add_distrib, Finset.sum_congr rfl (g := fun _ => 1) fun i _ => by by_cases h : l (place g i) = 0#32 <;> simp [h]]
    simp
  omega

/-- The number of pairs, segment by segment. -/
theorem pairs_eq : pairs l = ∑ g, positives l g * (1024 - positives l g) := by
  unfold pairs
  rw [Finset.card_filter, Fintype.sum_prod_type, sum_pairs _ fun p q h => if_neg fun e => h e.1]
  refine Finset.sum_congr rfl fun g _ => ?_
  rw [← negatives]
  unfold positives
  rw [Finset.sum_mul_sum]
  refine Finset.sum_congr rfl fun i _ => Finset.sum_congr rfl fun j _ => ?_
  simp only [isPair_place]
  by_cases h : l (place g i) = 0#32 <;> by_cases h' : l (place g j) = 0#32 <;> simp [h, h']

/-- There are at most 4194304 pairs. -/
theorem pairs_le : pairs l ≤ 4194304 := by
  rw [pairs_eq]
  refine (Finset.sum_le_sum (g := fun _ => 1048576) fun g _ => ?_).trans (by simp)
  exact (Nat.mul_le_mul (positives_le l g) (Nat.sub_le _ _)).trans (by norm_num)

/-- One pair's loss as a difference of two selected numbers: what is not a pair of the segment gives zero. -/
theorem loss_select (a b : ℝ) (P Q : Prop) [Decidable P] [Decidable Q] :
    max ((if Q then (b : EReal) + 1 else ⊥) - (if P then (a : EReal) else ⊤)) 0 = if P ∧ Q then max (1 - ((a : EReal) - b)) 0 else 0 := by
  by_cases hP : P <;> by_cases hQ : Q <;> simp only [hP, hQ, if_true, if_false, and_true, and_false]
  · have e : (b : EReal) + 1 - a = 1 - ((a : EReal) - b) := by
      rw [← EReal.coe_one, ← EReal.coe_add, ← EReal.coe_sub, ← EReal.coe_sub, ← EReal.coe_sub]
      congr 1
      ring
    rw [e]
  · simp
  · simp
  · simp

/-- The losses, segment by segment. -/
theorem losses_eq (hs : ∀ p, s p ≠ ⊤ ∧ s p ≠ ⊥) : losses s l = ∑ g, ∑ j, ∑ i,
    max ((if l (place g j) = 0#32 then s (place g j) + 1 else ⊥) - (if l (place g i) ≠ 0#32 then s (place g i) else ⊤)) 0 := by
  unfold losses
  rw [sum_pairs _ fun p q h => if_neg fun e => h e.1]
  refine Finset.sum_congr rfl fun g _ => ?_
  rw [Finset.sum_comm]
  refine Finset.sum_congr rfl fun j _ => Finset.sum_congr rfl fun i _ => ?_
  lift s (place g j) to ℝ using hs _ with b
  lift s (place g i) to ℝ using hs _ with a
  rw [loss_select]
  simp only [isPair_place]

open Idealize.ShloMosaic

/-- A select on a one-bit word that is one exactly when `P` holds. -/
theorem select_iff {α : Type} {P : Prop} [Decidable P] {c : BitVec 1} (h : c = 1#1 ↔ P) (a b : α) : Scalar.select c a b = if P then a else b := by
  by_cases hP : P
  · rw [if_pos hP, h.2 hP]
    rfl
  · rw [if_neg hP]
    have hc : c = 0#1 := (by decide : ∀ c : BitVec 1, c ≠ 1#1 → c = 0#1) c fun e => hP (h.1 e)
    rw [hc]
    rfl

/-- A select on whether a label is zero. -/
theorem select_eq {α : Type} (x : BitVec 32) (a b : α) : Scalar.select (IntOp.cmpi .eq x 0#32) a b = if x = 0#32 then a else b :=
  select_iff IntOp.cmpi_eq a b

/-- A select on whether a label is not zero. -/
theorem select_ne {α : Type} (x : BitVec 32) (a b : α) : Scalar.select (IntOp.cmpi .ne x 0#32) a b = if x ≠ 0#32 then a else b :=
  select_iff IntOp.cmpi_ne a b

/-- The mark of a positive as a number: one at a positive, else zero. -/
theorem mark (x : BitVec 32) : (FloatOps.sitofp (F := Ideal) FTy.f32 (BitVec.setWidth 32 (IntOp.cmpi .ne x 0#32)) : EReal)
    = (((if x ≠ 0#32 then 1 else 0 : ℕ) : ℝ) : EReal) := by
  show (((BitVec.setWidth 32 (IntOp.cmpi .ne x 0#32)).toInt : ℝ) : EReal) = _
  by_cases h : x ≠ 0#32
  · rw [if_pos h, IntOp.cmpi_ne.2 h]
    norm_num
  · rw [if_neg h, (by decide : ∀ c : BitVec 1, c ≠ 1#1 → c = 0#1) _ (mt IntOp.cmpi_ne.1 h)]
    norm_num

/-- A sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The number of pairs from the numbers of positives, computed in the extended reals. -/
theorem pairs_coe : (∑ g, ((positives l g : ℝ) : EReal) * (((1024 : ℝ) : EReal) - ((positives l g : ℝ) : EReal))) = ((pairs l : ℝ) : EReal) := by
  rw [pairs_eq, Nat.cast_sum, coe_sum]
  refine Finset.sum_congr rfl fun g _ => ?_
  rw [Nat.cast_mul, Nat.cast_sub (positives_le l g), EReal.coe_mul, EReal.coe_sub]
  rfl

end Cert.Spec
-- ==== Proof.KValue.lean ====
module

public import proofs.«01_k».proof.Proof.Tail
public import proofs.«01_k».proof.Proof.KBlocks
public import proofs.«01_k».proof.Proof.Spec

@[expose] public section

/-! The kernel's result in terms of its arguments: the mean loss of the pairs. -/

set_option maxRecDepth 16384

noncomputable section

namespace Cert.KernelIdeal.Body

open Cert.KernelIdeal Cert.KernelIdeal.Gen
open Idealize.ShloMosaic Idealize.ShloMosaic.TcCoe Idealize.SL.Sem

variable (s : FVec Ideal S4096 .f32) (l : IVec S4096 32)

/-- The constant that the host subtracts the counts from is 1024. -/
theorem bits_1024 : Ideal.ofBits .f32 1149239296#32 = (((1024 : ℝ)) : EReal) := by
  simp [Ideal.ofBits, Ideal.ieee, -EReal.coe_mul]; norm_num

/-- The count array's entry of segment `g`: its number of positives. -/
theorem positives_at (g : Fin 4) : (∑ i : Fin 1024, FloatOps.sitofp (F := Ideal) FTy.f32 (BitVec.setWidth 32 (IntOp.cmpi .ne (l (at' g i)) 0#32)))
    = ((Spec.positives (fun p => l (ix1 p)) g : ℝ) : EReal) := by
  unfold Spec.positives
  rw [Nat.cast_sum, Spec.coe_sum]
  refine Finset.sum_congr rfl fun i _ => ?_
  exact Spec.mark _

/-- The result of the host's last operations on the region's arrays: the mean loss of the pairs, zero when there is none. -/
theorem tail_value (hs : ∀ p : Fin 4096, s (ix1 p) ≠ (⊤ : EReal) ∧ s (ix1 p) ≠ (⊥ : EReal)) : tailOf (F := Ideal) (lossArr s l) (posArr l) ix0
    = Spec.meanLoss (fun p => s (ix1 p)) (fun p => l (ix1 p)) := by
  pointwise [tailOf, lossArr, posArr]
  simp only [Fin.sum_univ_one, positives_at, bits_1024, Spec.pairs_coe, Spec.select_eq, Spec.select_ne]
  unfold Spec.meanLoss
  rw [Spec.losses_eq _ _ hs]
  exact if_congr (EReal.coe_pos.trans Nat.cast_pos) rfl rfl

/-- The kernel's run: its result is that mean; its arguments end unchanged. -/
theorem value_run (m : (ℓ : Loc nD τ sig) → Buf (Elt Ideal) ℓ) (ρ : Dev nD → PrngReg)
    (hs : ∀ (c : Dev nD) (p : Fin 4096), scoresOf m c (ix1 p) ≠ (⊤ : EReal) ∧ scoresOf m c (ix1 p) ≠ (⊥ : EReal)) :
    θ_run defs (onTc (τ := τ) (main (F := Ideal))) ⟨m, fun _ => 0, ρ⟩ fun r => ∀ c : Dev nD,
      r.2.mem ((c.tc : Thread nD τ).loc main_v14) = (fun _ => Spec.meanLoss (fun p => scoresOf m c (ix1 p)) (fun p => labelsOf m c (ix1 p)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (result_run m ρ)
  rw [final_loss, final_pos]
  funext j
  obtain rfl : j = ix0 := funext fun a => a.elim0
  exact tail_value _ _ (hs c)

end Cert.KernelIdeal.Body
-- ==== Proof.Seg.lean ====
module

public import proofs.«01_k».proof.Proof.Gen.ReferenceIdeal.Run
public import Idealize.ShloMosaic.Lib.Routing.OpsOne
public import Idealize.ShloMosaic.Lib.Routing.OpsPair
public import Idealize.ShloMosaic.Lib.ReduceAll
public import Idealize.ShloMosaic.PureOps.Ideal
public import Idealize.ShloMosaic.Lib.Claim

@[expose] public section

/-! The reference's segment numbers: place `p` lies in segment `p / 1024` when every segment has 1024 places. -/

set_option maxRecDepth 16384

noncomputable section

namespace Cert.ReferenceIdeal.Seg

open Cert.ReferenceIdeal Cert.ReferenceIdeal.Value
open Idealize.ShloMosaic Idealize.ShloMosaic.TcCoe Idealize.SL.Sem Idealize.ShloMosaic.ValueIdx

/-- Update `i` of a scatter of `M` scalars into a vector of `N`, one index word each, lands at `x` exactly when its word, read signed, is `x`. -/
theorem lands_at {M N : Nat} (d : ScatterDims (Routing.shape1 N) (Routing.shape2 M 1) (Routing.shape1 M)) (hw : d.insertedWindowDims = [0])
    (hs : d.scatterDimsToOperandDims = [0]) (hv : d.indexVectorDim = 1) (idx : IVec (Routing.shape2 M 1) 32) (i : Fin M) (x : Fin N) :
    d.resultIdx? (ix1 i) idx = some (ix1 x) ↔ (idx (ix2 i (0 : Fin 1))).toInt = (x.val : Int) := by
  have mem : (0 : Fin 1) ∈ d.scatterDimsToOperandDims := hs ▸ List.mem_singleton.2 rfl
  have no_window : d.window (ix1 i) 0 = 0 := by
    unfold ScatterDims.window
    exact dif_neg fun h => (of_decide_eq_true (List.mem_filter.1 h).2) (hw ▸ List.mem_singleton.2 rfl)
  have only : ∀ X : Fin 1, (ix1 i X).val = i.val := fun X => by
    rw [Subsingleton.elim X 0]
  have pos : d.siIdx (ix1 i) ⟨d.scatterDimsToOperandDims.idxOf 0, List.idxOf_lt_length_iff.2 mem⟩ = ix2 i (0 : Fin 1) := by
    funext b
    match b with
    | ⟨0, _⟩ =>
      apply Fin.ext
      unfold ScatterDims.siIdx ScatterDims.siCoord
      rw [dif_neg (by rw [hv]; exact Nat.zero_ne_one)]
      simp only [Fin.val_cast]
      exact only _
    | ⟨1, _⟩ => exact Subsingleton.elim (α := Fin 1) _ _
  have start : d.start (ix1 i) idx 0 = (idx (ix2 i (0 : Fin 1))).toInt := by
    unfold ScatterDims.start
    rw [dif_pos mem, pos]
  rw [Routing.resultIdx?_ix1, start, no_window, Nat.cast_zero, add_zero]

/-- Adding one at each of `M` places of a vector of zeros counts, at `x`, the places that are `x`. -/
theorem scatter_ones {M N : Nat} (d : ScatterDims (Routing.shape1 N) (Routing.shape2 M 1) (Routing.shape1 M)) (hw : d.insertedWindowDims = [0])
    (hs : d.scatterDimsToOperandDims = [0]) (hv : d.indexVectorDim = 1) (z : IVec (Routing.shape1 N) 32) (hz : ∀ i, z i = 0#32)
    (idx : IVec (Routing.shape2 M 1) 32) (u : IVec (Routing.shape1 M) 32) (hu : ∀ i, u i = 1#32) (g : Nat → Nat)
    (hg : ∀ i : Fin M, idx (ix2 i (0 : Fin 1)) = BitVec.ofNat 32 (g i.val)) (hb : ∀ i : Fin M, g i.val < 2 ^ 31) (x : Fin N) :
    Host.scatter d IntOp.addi z idx u (ix1 x) = BitVec.ofNat 32 ((List.range M).map fun i => if g i = x.val then 1 else 0).sum := by
  have step : ∀ n : Fin (Routing.shape1 M).numel, d.resultIdx? ((Routing.shape1 M).rowMajor.symm n) idx = some (ix1 x) ↔ g n.val = x.val := fun n => by
    rw [Routing.symm1, lands_at d hw hs hv, hg, StableHlo.Predicate.toInt_ofNat_small _ (hb (n.cast (Routing.numel1 M)))]
    exact Nat.cast_inj
  rw [Routing.scatter_at]
  have hf : (fun (a : BitVec 32) (n : Fin (Routing.shape1 M).numel) => if d.resultIdx? ((Routing.shape1 M).rowMajor.symm n) idx = some (ix1 x)
      then IntOp.addi a (u ((Routing.shape1 M).rowMajor.symm n)) else a)
      = fun a n => IntOp.addi a (BitVec.ofNat 32 (if g n.val = x.val then 1 else 0)) := by
    funext a n
    by_cases h : g n.val = x.val
    · rw [if_pos ((step n).2 h), if_pos h, hu]
    · rw [if_neg (fun e => h ((step n).1 e)), if_neg h]
      exact (BitVec.add_zero a).symm
  rw [hf]
  refine (Routing.foldl_addi_ofNat _ _ (fun n : Fin (Routing.shape1 M).numel => if g n.val = x.val then 1 else 0) (fun _ _ => rfl) _ 0 (hz _)).trans ?_
  rw [Nat.zero_add]
  rw [Routing.map_finRange_val _ (fun n => if g n = x.val then 1 else 0), Routing.numel1]

/-- Of the places up to `n`, those where a segment starts. -/
theorem count_starts : ∀ n ≤ 4096, ((List.range n).map fun k => ((List.range 4).map fun i => if 1024 * i = k then 1 else 0).sum).sum = (n + 1023) / 1024
  | 0, _ => rfl
  | n + 1, h => by
    rw [List.range_succ (n := n), List.map_append, List.sum_append, count_starts n (by omega)]
    simp only [List.map_cons, List.map_nil, List.sum_cons, List.sum_nil, show List.range 4 = [0, 1, 2, 3] from rfl]
    split_ifs <;> omega

variable (V0 : Valuation τ sig (Elt Ideal)) (hn : ∀ i : Fin 4, V0 (Proc.devRef .tc main_arg2) (ix1 i) = 1024#32)

include hn

/-- Where each segment starts: segment `i` at `1024 * i`. -/
theorem starts (i : Fin 4) : res_main_v4 V0 (ix1 i) = BitVec.ofNat 32 (1024 * i.val) := by
  unfold res_main_v4
  rw [Routing.cumsum1 (N := 4) (Nm1 := 3) rfl _ (fun k => if k = 0 then 0 else 1024) ?_ _ rfl]
  · congr 1
    revert i
    decide
  · intro k
    have e := Routing.scatter_one (N := 4) scatter_S4_S1_S__n_0_0_0 rfl rfl
      (concatenate S4 0 [⟨S1, extractStridedSlice S1 ![3] (V0 (Proc.tc.devRef main_arg2)) Gen.slices_S4_S1_3⟩,
          ⟨S3, extractStridedSlice S3 ![0] (V0 (Proc.tc.devRef main_arg2)) Gen.slices_S4_S3_0⟩] Gen.concatenates_S1_S3_S4_d0)
      (broadcastInDim S1 ![] Gen.bcast_S_S1 (constantI S_ 32 0#32)) (constantI S_ 32 0#32) 0 (by decide) rfl k
    refine e.trans ?_
    by_cases hk : k = 0
    · subst hk
      rfl
    · have hk' : k.val ≠ 0 := fun h => hk (Fin.ext h)
      rw [if_neg hk, if_neg hk', concatenate_pair_apply_right (s₁ := S1) (s₂ := S3) 0 _ _ _ (ix1 k) rfl rfl (ix1 (⟨k.val - 1, by omega⟩ : Fin 3))
        (fun b hb => absurd (Subsingleton.elim (α := Fin 1) _ _) hb) (Nat.sub_add_cancel (by omega))]
      exact (Routing.slice1 (m := 4) (n := 3) 0 _ _ _ (by show 0 + (k.val - 1) < 4; omega)).trans (hn _)

/-- The number of the segment of place `p`. -/
theorem segs (p : Fin 4096) : res_main_v16 V0 (ix1 p) = BitVec.ofNat 32 (p.val / 1024) := by
  unfold res_main_v16
  show IntOp.subi (Host.reduceWindow _ _ _ _ _ _ _ _ _ (ix1 p)) _ = _
  rw [Routing.cumsum1 (N := 4096) (Nm1 := 4095) rfl _ (fun k => ((List.range 4).map fun i => if 1024 * i = k then 1 else 0).sum) ?_ _ rfl]
  · rw [count_starts _ (by omega), show (p.val + 1 + 1023) / 1024 = p.val / 1024 + 1 by omega, BitVec.ofNat_add]
    exact BitVec.add_sub_cancel _ _
  · intro k
    refine scatter_ones _ rfl rfl rfl _ (fun _ => rfl) _ _ (fun _ => rfl) (fun i => 1024 * i) (fun i => ?_) (fun i => by omega) k
    rw [Routing.bcCol]
    show Scalar.select (IntOp.cmpi .slt (res_main_v4 V0 (ix1 i)) 0#32) _ (res_main_v4 V0 (ix1 i)) = _
    rw [Routing.wrap_of_lt, starts V0 hn]
    rw [starts V0 hn]
    rw [BitVec.toNat_ofNat]
    omega

/-- That word as the column the lookup reads. -/
theorem seg_col (p : Fin 4096) : res_main_call3_v5 V0 (ix2 p (0 : Fin 1)) = BitVec.ofNat 32 (p.val / 1024) := by
  unfold res_main_call3_v5
  rw [Routing.bcCol]
  show Scalar.select (IntOp.cmpi .slt (res_main_v16 V0 (ix1 p)) 0#32) _ (res_main_v16 V0 (ix1 p)) = _
  rw [Routing.wrap_of_lt, segs V0 hn]
  rw [segs V0 hn, BitVec.toNat_ofNat]
  omega

/-- The lookup of that number in `0, 1, 2, 3`: the number itself. -/
theorem seg_eq (p : Fin 4096) : res_main_v17 V0 (ix1 p) = BitVec.ofNat 32 (p.val / 1024) := by
  have hp : p.val / 1024 < 4 := by omega
  unfold res_main_v17
  show Scalar.select (Host.reduce _ _ _ _ _ (ix1 p)) (Host.gather _ _ _ (ix1 p)) _ = _
  rw [Host.reduce_andi_one _ _ _ _ _ rfl ?_]
  · rw [Routing.gather_take1 (N := 4) (n := 4096) gather_S4_S4096x1_S4096_n_0_n_n_0_1_1 rfl rfl rfl rfl _ _ p ⟨p.val / 1024, hp⟩ (seg_col V0 hn p) (by decide)]
    rfl
  · intro i
    obtain ⟨p, rfl⟩ : ∃ p : Fin 4096, i = ix2 p (0 : Fin 1) := ⟨i 0, (eq_ix2 i).trans (congrArg _ (Subsingleton.elim (α := Fin 1) _ _))⟩
    show IntOp.andi (IntOp.cmpi .sge (res_main_call3_v5 V0 (ix2 p (0 : Fin 1))) 0#32) (IntOp.cmpi .sle (res_main_call3_v5 V0 (ix2 p (0 : Fin 1))) 3#32) = 1#1
    have hp : p.val / 1024 < 4 := by omega
    rw [seg_col V0 hn]
    generalize p.val / 1024 = k at hp
    revert k
    decide

end Cert.ReferenceIdeal.Seg
-- ==== Proof.RefValue.lean ====
module

public import proofs.«01_k».proof.Proof.Seg
public import proofs.«01_k».proof.Proof.Spec
public import Idealize.ShloMosaic.Lib.IndicatorCount
public import Idealize.ShloMosaic.Lib.IdealHost
public import Idealize.ShloMosaic.Lib.Pointwise
public import Idealize.ShloMosaic.Lib.Claim
public import Idealize.ShloMosaic.PureOps.Ideal

@[expose] public section

/-! The reference's result in terms of its arguments: the mean loss of the pairs. -/

set_option maxRecDepth 16384

noncomputable section

namespace Cert.ReferenceIdeal.RefValue

open Cert.ReferenceIdeal Cert.ReferenceIdeal.Value Cert.ReferenceIdeal.Gen
open Idealize.ShloMosaic Idealize.ShloMosaic.TcCoe Idealize.SL.Sem

variable (s : FVec Ideal S4096 .f32) (l : IVec S4096 32) (M : IVec S4096x4096 1)

/-- The sum of the masked losses. -/
def sumOf : FVec Ideal S_ .f32 := Host.reduceAdd (select M (maximumf (subf (broadcastInDim S4096x4096 ![] bcast_S_S4096x4096 (constant S_ .f32 0x3F800000#32)) (subf (broadcastInDim S4096x4096 ![0, 1] bcast_S4096x1_S4096x4096_0_1 (broadcastInDim S4096x1 ![0] bcast_S4096_S4096x1_0 s)) (broadcastInDim S4096x4096 ![0, 1] bcast_S1x4096_S4096x4096_0_1 (broadcastInDim S1x4096 ![1] bcast_S4096_S1x4096_1 s)))) (broadcastInDim S4096x4096 ![] bcast_S_S4096x4096 (constant S_ .f32 0x00000000#32))) (broadcastInDim S4096x4096 ![] bcast_S_S4096x4096 (id (constant S_ .f32 0x00000000#32)))) (constant S_ .f32 0x00000000#32) reducesTo_S4096x4096_S_d0_1 h_S_

/-- The mean of the scores times zero. -/
def meanOf : FVec Ideal S_ .f32 := Host.divf (Host.reduceAdd (mulf s (broadcastInDim S4096 ![] bcast_S_S4096 (constant S_ .f32 0x00000000#32))) (constant S_ .f32 0x00000000#32) reducesTo_S4096_S_d0 h_S_) (constant S_ .f32 0x45800000#32)

/-- The number of set marks. -/
def countOf : IVec S_ 32 := Host.reduce IntOp.addi (extui 32 M natLt_1_32) (constantI S_ 32 0#32) reducesTo_S4096x4096_S_d0_1 h_S_

/-- The result, of the number of pairs, the sum of their losses and the number that stands where there is no pair. -/
def outOf (N : IVec S_ 32) (A B : FVec Ideal S_ .f32) : FVec Ideal S_ .f32 :=
  select (cmpi .sgt N (constantI S_ 32 0#32)) (Host.divf A (sitofp .f32 (maxsi N (constantI S_ 32 1#32)))) B

/-- With the mask set exactly at the pairs, the sum of the masked losses is the sum of the pairs' losses. -/
theorem sumOf_eq (hM : ∀ p q : Fin 4096, M (ix2 p q) = 1#1 ↔ Spec.IsPair (fun p => l (ix1 p)) p q) :
    sumOf s M ix0 = Spec.losses (fun p => s (ix1 p)) (fun p => l (ix1 p)) := by
  unfold sumOf
  pointwise
  unfold Spec.losses
  refine Finset.sum_congr rfl fun p _ => Finset.sum_congr rfl fun q _ => ?_
  rw [Spec.select_iff (hM p q)]
  congr 1
  exact Ideal.ofBits_zero_f32

/-- Real scores times zero have the mean zero. -/
theorem meanOf_eq (hs : ∀ p : Fin 4096, s (ix1 p) ≠ (⊤ : EReal) ∧ s (ix1 p) ≠ (⊥ : EReal)) : meanOf s ix0 = (0 : EReal) := by
  unfold meanOf
  pointwise
  rw [Finset.sum_eq_zero fun p _ => mul_zero (s (ix1 p) : EReal)]
  refine Ideal.zero_div ?_
  rw [show Ideal.ofBits .f32 1166016512#32 = (((4096 : ℝ)) : EReal) by simp [Ideal.ofBits, Ideal.ieee, -EReal.coe_mul]; norm_num]
  norm_num

/-- With the mask set exactly at the pairs, the number of set marks is the number of pairs. -/
theorem countOf_eq (hM : ∀ p q : Fin 4096, M (ix2 p q) = 1#1 ↔ Spec.IsPair (fun p => l (ix1 p)) p q) :
    countOf M ix0 = BitVec.ofNat 32 (Spec.pairs fun p => l (ix1 p)) := by
  unfold countOf
  pointwise
  rw [IndicatorCount.fold_addi_setWidth_eq_card]
  unfold Spec.pairs
  simp only [hM]

/-- The result for a number of pairs that a signed word holds: the quotient when it is not zero, else zero. -/
theorem outOf_eq (N : IVec S_ 32) (A B : FVec Ideal S_ .f32) (n : ℕ) (hn : n ≤ 4194304) (hN : N ix0 = BitVec.ofNat 32 n) (hB : B ix0 = (0 : EReal)) :
    outOf N A B ix0 = if 0 < n then Ideal.div (A ix0) ((n : ℝ) : EReal) else 0 := by
  unfold outOf
  pointwise
  have hi : (BitVec.ofNat 32 n).toInt = n := StableHlo.Predicate.toInt_ofNat_small n (by omega)
  rw [hN, hB, Spec.select_iff (P := 0 < n) (IntOp.cmpi_sgt.trans (by rw [hi]; simp))]
  by_cases h : 0 < n
  · rw [if_pos h, if_pos h]
    congr 1
    have hm : IntOp.maxsi (BitVec.ofNat 32 n) 1#32 = BitVec.ofNat 32 n := by
      unfold IntOp.maxsi
      by_cases h1 : BitVec.slt 1#32 (BitVec.ofNat 32 n) = true
      · rw [if_pos h1]
      · rw [if_neg h1]
        rw [BitVec.slt_iff_toInt_lt, hi] at h1
        obtain rfl : n = 1 := by
          have : (1#32).toInt = 1 := rfl
          omega
        rfl
    rw [hm]
    show (((BitVec.ofNat 32 n).toInt : ℝ) : EReal) = _
    rw [hi]
    norm_num
  · rw [if_neg h, if_neg h]

/-- The mask: one exactly at the pairs. -/
theorem mask_iff (V0 : Valuation τ sig (Elt Ideal)) (hn : ∀ i : Fin 4, V0 (Proc.devRef .tc main_arg2) (ix1 i) = 1024#32) (p q : Fin 4096) :
    (res_main_v32 V0) (ix2 p q) = 1#1 ↔ Spec.IsPair (fun p => V0 (Proc.devRef .tc main_arg1) (ix1 p)) p q := by
  have seg : ∀ p : Fin 4096, res_main_v17 V0 (ix1 p) = BitVec.ofNat 32 (p.val / 1024) := fun p => Seg.seg_eq V0 hn p
  pointwise [res_main_v32]
  rw [seg, seg, IntOp.andi_eq_one, IntOp.andi_eq_one, IntOp.cmpi_eq, IntOp.cmpi_ne, IntOp.cmpi_eq, and_assoc]
  unfold Spec.IsPair
  refine and_congr_left fun _ => ⟨fun h => ?_, fun h => by rw [h]⟩
  have := congrArg BitVec.toNat h
  rw [BitVec.toNat_ofNat, BitVec.toNat_ofNat] at this
  omega

/-- The reference's result of its arguments: the mean loss of the pairs, zero when there is none. -/
theorem value (V0 : Valuation τ sig (Elt Ideal)) (hn : ∀ i : Fin 4, V0 (Proc.devRef .tc main_arg2) (ix1 i) = 1024#32) (s : FVec Ideal S4096 .f32)
    (hs : ∀ p : Fin 4096, s (ix1 p) ≠ (⊤ : EReal) ∧ s (ix1 p) ≠ (⊥ : EReal)) :
    outOf (countOf (res_main_v32 V0)) (sumOf s (res_main_v32 V0)) (meanOf s)
      = fun _ => Spec.meanLoss (fun p => s (ix1 p)) (fun p => V0 (Proc.devRef .tc main_arg1) (ix1 p)) := by
  have hM := mask_iff V0 hn
  funext j
  obtain rfl : j = ix0 := funext fun a => a.elim0
  rw [outOf_eq _ _ _ _ (Spec.pairs_le _) (countOf_eq _ _ hM) (meanOf_eq _ hs), sumOf_eq _ _ _ hM]
  rfl

/-- The reference's run: its result is that value; its arguments end unchanged. -/
theorem result_run (m : (ℓ : Loc nD τ sig) → Buf (Elt Ideal) ℓ) (ρ : Dev nD → PrngReg)
    (hs : ∀ (c : Dev nD) (p : Fin 4096), (m ((c.tc : Thread nD τ).loc main_arg0) : FVec Ideal S4096 .f32) (ix1 p) ≠ (⊤ : EReal)
      ∧ (m ((c.tc : Thread nD τ).loc main_arg0) : FVec Ideal S4096 .f32) (ix1 p) ≠ (⊥ : EReal))
    (hn : ∀ (c : Dev nD) (i : Fin 4), (m ((c.tc : Thread nD τ).loc main_arg2) : IVec S4 32) (ix1 i) = 1024#32) :
    θ_run defs (onTc (τ := τ) (main (F := Ideal))) ⟨m, fun _ => 0, ρ⟩ fun r => ∀ c : Dev nD,
      r.2.mem ((c.tc : Thread nD τ).loc main_v54) = (fun _ => Spec.meanLoss (fun p => (m ((c.tc : Thread nD τ).loc main_arg0) : FVec Ideal S4096 .f32) (ix1 p))
          (fun p => (m ((c.tc : Thread nD τ).loc main_arg1) : IVec S4096 32) (ix1 p)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value (StableHlo.launchContents m c) (hn c) _ (hs c)), (h c).2⟩) (Value.run (F := Ideal) m ρ)

end Cert.ReferenceIdeal.RefValue
-- ==== Proof.PreRead.lean ====
module

public import proofs.«01_k».proof.Defs
public import Idealize.ShloMosaic.Lib.Pointwise
public import Idealize.ShloMosaic.Lib.Claim
public import Idealize.ShloMosaic.Lib.ReduceAll
public import Idealize.ShloMosaic.Lib.Affine
public import Idealize.ShloMosaic.PureOps.Ideal

@[expose] public section

/-! The precondition, read off its program. -/

set_option maxRecDepth 16384

noncomputable section

namespace Cert.PreRead

open Cert.Pre_pre
open Idealize.ShloMosaic Idealize.ShloMosaic.TcCoe Idealize.SL.Sem

/-- What the precondition says of the arguments: every score is a real number, and every segment has 1024 places. -/
theorem reads [Cert.Pre_pre.Facts] (s : FVec Ideal S4096 .f32) (l : IVec S4096 32) (n : IVec S4 32) (h : Cert.Pre_pre.fn (F := Ideal) s l n = fun _ => 1#1) :
    (∀ i : Fin 4096, s (ix1 i) ≠ (⊤ : EReal) ∧ s (ix1 i) ≠ (⊥ : EReal)) ∧ ∀ i : Fin 4, n (ix1 i) = 1024#32 := by
  have h0 := congrFun h ix0
  unfold Cert.Pre_pre.fn at h0
  obtain ⟨ha, hb⟩ := IntOp.andi_eq_one.1 h0
  refine ⟨fun i => ?_, fun i => ?_⟩
  · have e := Host.reduce_andi_all _ _ _ _ _ ha (ix1 i)
    pointwise at e
    rw [show Ideal.ofBits .f32 2139095040#32 = (⊤ : EReal) by simp [Ideal.ofBits, Ideal.ieee]] at e
    have hlt : max (s (ix1 i) : EReal) (-(s (ix1 i) : EReal)) < ⊤ := by
      by_contra h
      rw [show decide (FloatOps.absf (s (ix1 i)) < (⊤ : EReal)) = false from decide_eq_false h] at e
      exact absurd e (by decide)
    refine ⟨fun h => ?_, fun h => ?_⟩
    · rw [h] at hlt
      exact absurd hlt (by simp)
    · rw [h] at hlt
      exact absurd hlt (by simp)
  · have e := Host.reduce_andi_all _ _ _ _ _ hb (ix1 i)
    pointwise at e
    exact IntOp.cmpi_eq.1 e

end Cert.PreRead
-- ==== Proof.Equal.lean ====
module

public import proofs.«01_k».proof.Defs
public import proofs.«01_k».proof.Proof.Gen.Kernel
public import proofs.«01_k».proof.Proof.Printed
public import proofs.«01_k».proof.Proof.Gen.Pre_pre
public import proofs.«01_k».proof.Proof.KValue
public import proofs.«01_k».proof.Proof.RefValue
public import proofs.«01_k».proof.Proof.PreRead
public import Idealize.ShloMosaic.Lib.Quiescent

@[expose] public section

/-! The claims, one theorem each. -/

noncomputable section

namespace Cert.Proof

open Idealize.ShloMosaic Idealize.ShloMosaic.TcCoe Idealize.SL.Sem

/-- The kernel as printed runs to its end, faults nowhere, leaves its arguments unchanged and every semaphore at zero. -/
theorem kernel_frame : Cert.quiescent_Kernel (hKernel := Cert.Kernel.Gen.facts) := Cert.Printed.frame

/-- The same of the idealized kernel. -/
theorem ideal_frame : Cert.quiescent_KernelIdeal (hKernelIdeal := Cert.KernelIdeal.Gen.facts) := fun m ρ _ => Cert.KernelIdeal.Body.frame m ρ

/-- The same under the precondition. -/
theorem ideal_frame_pre : Cert.quiescent_KernelIdeal_pre_pre (hKernelIdeal := Cert.KernelIdeal.Gen.facts) (hPre_pre := Cert.Pre_pre.Gen.facts) :=
  fun m ρ _ => Cert.KernelIdeal.Body.frame m ρ

/-- The same of the reference. -/
theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem reference_frame_pre : Cert.quiescent_ReferenceIdeal_pre_pre (hReferenceIdeal := Cert.ReferenceIdeal.Gen.facts) (hPre_pre := Cert.Pre_pre.Gen.facts) :=
  fun m ρ _ => reference_frame m ρ trivial

/-- Each constant that was given a name is the one the name stands for. -/
theorem constants_kept : Cert.preserves_Kernel_KernelIdeal :=
  ⟨IdealRules.named_const.statement Cert.KernelIdeal.κ "never_pos" .f32 0x7F61B1E6#32 ⊤ rfl,
    IdealRules.named_const.statement Cert.KernelIdeal.κ "never_neg" .f32 0xFF61B1E6#32 ⊥ rfl⟩

/-- Under the precondition the idealized kernel and the reference end with the same result, the mean loss of the pairs. -/
theorem same_result : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hagree
  have hr : ∀ c : Dev Cert.KernelIdeal.nD, _ := fun c => @Cert.PreRead.reads Cert.Pre_pre.Gen.facts _ _ _ (hpre c)
  refine ⟨_, Cert.KernelIdeal.Body.value_run m g fun c => (hr c).1, ?_⟩
  have hrun := Cert.ReferenceIdeal.RefValue.result_run m' g' (fun c p => by rw [(hagree c).1]; exact (hr c).1 p) (fun c i => by rw [(hagree c).2.2]; exact (hr c).2 i)
  refine (θ_run Cert.ReferenceIdeal.defs _ _).mono (fun r h c => ⟨(h c).1.trans ?_, (h c).2⟩) hrun
  rw [(hagree c).1, (hagree c).2.1]
  rfl

end Cert.Proof
-- ==== Proof.lean ====
/- The claims about the pairwise hinge loss kernel, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pre
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims together. -/
theorem claim : Cert.Claim := ⟨Cert.Kernel.Gen.facts, Cert.KernelIdeal.Gen.facts, Cert.ReferenceIdeal.Gen.facts, Cert.Pre_pre.Gen.facts,
  kernel_frame, ideal_frame, ideal_frame_pre, reference_frame, reference_frame_pre, constants_kept, same_result⟩

end Cert.Proof

end
